-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S36x20x256x64 : Shape := ⟨4, ![36, 20, 256, 64]⟩
abbrev S36x20 : Shape := ⟨2, ![36, 20]⟩
abbrev S36x4x256x64 : Shape := ⟨4, ![36, 4, 256, 64]⟩
abbrev S36x4 : Shape := ⟨2, ![36, 4]⟩
abbrev S36x256x1280 : Shape := ⟨3, ![36, 256, 1280]⟩
abbrev S1x20x256x64 : Shape := ⟨4, ![1, 20, 256, 64]⟩
abbrev S1x4x256x64 : Shape := ⟨4, ![1, 4, 256, 64]⟩
abbrev S1x256x1280 : Shape := ⟨3, ![1, 256, 1280]⟩
abbrev S64x64 : Shape := ⟨2, ![64, 64]⟩
abbrev S1x1x256x64 : Shape := ⟨4, ![1, 1, 256, 64]⟩
abbrev S256x64 : Shape := ⟨2, ![256, 64]⟩
abbrev S64x256 : Shape := ⟨2, ![64, 256]⟩
abbrev S1x1 : Shape := ⟨2, ![1, 1]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 7
  | .vmem => 8
  | .smem => 3
  | _ => 0

abbrev bufTy : (tb : Table) → Fin (tcTables nBuf tb) → BufTy
  | .hbm, ⟨0, _⟩ => ⟨S36x20x256x64, .fp8e4m3⟩
  | .hbm, ⟨1, _⟩ => ⟨S36x20, .f32⟩
  | .hbm, ⟨2, _⟩ => ⟨S36x4x256x64, .fp8e4m3⟩
  | .hbm, ⟨3, _⟩ => ⟨S36x4, .f32⟩
  | .hbm, ⟨4, _⟩ => ⟨S36x4x256x64, .fp8e4m3⟩
  | .hbm, ⟨5, _⟩ => ⟨S36x4, .f32⟩
  | .hbm, ⟨6, _⟩ => ⟨S36x256x1280, .bf16⟩
  | .local _ .vmem, ⟨0, _⟩ => ⟨S1x20x256x64, .fp8e4m3⟩
  | .local _ .vmem, ⟨1, _⟩ => ⟨S1x20x256x64, .fp8e4m3⟩
  | .local _ .vmem, ⟨2, _⟩ => ⟨S1x4x256x64, .fp8e4m3⟩
  | .local _ .vmem, ⟨3, _⟩ => ⟨S1x4x256x64, .fp8e4m3⟩
  | .local _ .vmem, ⟨4, _⟩ => ⟨S1x4x256x64, .fp8e4m3⟩
  | .local _ .vmem, ⟨5, _⟩ => ⟨S1x4x256x64, .fp8e4m3⟩
  | .local _ .vmem, ⟨6, _⟩ => ⟨S1x256x1280, .bf16⟩
  | .local _ .vmem, ⟨7, _⟩ => ⟨S1x256x1280, .bf16⟩
  | .local _ .smem, ⟨0, _⟩ => ⟨S36x20, .f32⟩
  | .local _ .smem, ⟨1, _⟩ => ⟨S36x4, .f32⟩
  | .local _ .smem, ⟨2, _⟩ => ⟨S36x4, .f32⟩
  | _, _ => ⟨S36x20x256x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![36], ![false]⟩

def k0_off1 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v15 : Index := Scalar.indexCast v8
  let c0_9 : Index := 0#32
  ![v15.toNat, 0]
def k0_off2 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v17 : Index := Scalar.indexCast v8
  let c0_10 : Index := 0#32
  ![v17.toNat, 0]
def k0_off3 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v48 : Index := Scalar.indexCast v8
  let c1 : Index := 1#32
  ![v48.toNat, 1]
def k0_off4 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v86 : Index := Scalar.indexCast v8
  let c2 : Index := 2#32
  ![v86.toNat, 2]
def k0_off5 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v119 : Index := Scalar.indexCast v8
  let c3 : Index := 3#32
  ![v119.toNat, 3]
def k0_off6 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v157 : Index := Scalar.indexCast v8
  let c4 : Index := 4#32
  ![v157.toNat, 4]
def k0_off7 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v196 : Index := Scalar.indexCast v8
  let c5 : Index := 5#32
  ![v196.toNat, 5]
def k0_off8 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v198 : Index := Scalar.indexCast v8
  let c1_94 : Index := 1#32
  ![v198.toNat, 1]
def k0_off9 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v234 : Index := Scalar.indexCast v8
  let c6 : Index := 6#32
  ![v234.toNat, 6]
def k0_off10 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v267 : Index := Scalar.indexCast v8
  let c7 : Index := 7#32
  ![v267.toNat, 7]
def k0_off11 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v305 : Index := Scalar.indexCast v8
  let c8 : Index := 8#32
  ![v305.toNat, 8]
def k0_off12 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v338 : Index := Scalar.indexCast v8
  let c9 : Index := 9#32
  ![v338.toNat, 9]
def k0_off13 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v382 : Index := Scalar.indexCast v8
  let c10 : Index := 10#32
  ![v382.toNat, 10]
def k0_off14 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v384 : Index := Scalar.indexCast v8
  let c2_179 : Index := 2#32
  ![v384.toNat, 2]
def k0_off15 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v415 : Index := Scalar.indexCast v8
  let c11 : Index := 11#32
  ![v415.toNat, 11]
def k0_off16 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v453 : Index := Scalar.indexCast v8
  let c12 : Index := 12#32
  ![v453.toNat, 12]
def k0_off17 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v486 : Index := Scalar.indexCast v8
  let c13 : Index := 13#32
  ![v486.toNat, 13]
def k0_off18 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v524 : Index := Scalar.indexCast v8
  let c14 : Index := 14#32
  ![v524.toNat, 14]
def k0_off19 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v563 : Index := Scalar.indexCast v8
  let c15 : Index := 15#32
  ![v563.toNat, 15]
def k0_off20 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v565 : Index := Scalar.indexCast v8
  let c3_262 : Index := 3#32
  ![v565.toNat, 3]
def k0_off21 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v601 : Index := Scalar.indexCast v8
  let c16 : Index := 16#32
  ![v601.toNat, 16]
def k0_off22 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v634 : Index := Scalar.indexCast v8
  let c17 : Index := 17#32
  ![v634.toNat, 17]
def k0_off23 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v672 : Index := Scalar.indexCast v8
  let c18 : Index := 18#32
  ![v672.toNat, 18]
def k0_off24 (i : grid0.Coords) : Fin 2 → Nat :=
  let arg0 : BitVec 32 := BitVec.ofNat 32 (i 0).val
  let c1_i32 : BitVec 32 := 1#32
  let v7 : BitVec 32 := Scalar.muli arg0 c1_i32
  let c0_i32 : BitVec 32 := 0#32
  let v8 : BitVec 32 := Scalar.addi v7 c0_i32
  let v705 : Index := Scalar.indexCast v8
  let c19 : Index := 19#32
  ![v705.toNat, 19]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S36x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S36x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S36x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x20x256x64 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256x64 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x64 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S36x20x256x64 : Shape := ⟨4, ![36, 20, 256, 64]⟩
abbrev S36x20 : Shape := ⟨2, ![36, 20]⟩
abbrev S36x4x256x64 : Shape := ⟨4, ![36, 4, 256, 64]⟩
abbrev S36x4 : Shape := ⟨2, ![36, 4]⟩
abbrev S36x4x5x256x64 : Shape := ⟨5, ![36, 4, 5, 256, 64]⟩
abbrev S36x4x5 : Shape := ⟨3, ![36, 4, 5]⟩
abbrev S36x4x1 : Shape := ⟨3, ![36, 4, 1]⟩
abbrev S_ : Shape := ⟨0, ![]⟩
abbrev S36x4x5x1x1 : Shape := ⟨5, ![36, 4, 5, 1, 1]⟩
abbrev S36x1x4x1x1 : Shape := ⟨5, ![36, 1, 4, 1, 1]⟩
abbrev S36x256x1280 : Shape := ⟨3, ![36, 256, 1280]⟩
abbrev S36x4x5x256x256 : Shape := ⟨5, ![36, 4, 5, 256, 256]⟩
abbrev S36x4x5x256 : Shape := ⟨4, ![36, 4, 5, 256]⟩
abbrev S36x4x5x256x1 : Shape := ⟨5, ![36, 4, 5, 256, 1]⟩
abbrev S36x4x64x5x256 : Shape := ⟨5, ![36, 4, 64, 5, 256]⟩
abbrev S36x256x4x5x64 : Shape := ⟨5, ![36, 256, 4, 5, 64]⟩
abbrev S36x256x4x5 : Shape := ⟨4, ![36, 256, 4, 5]⟩
abbrev S36x256x4x5x1 : Shape := ⟨5, ![36, 256, 4, 5, 1]⟩

abbrev nBuf : Space → Nat
  | .hbm => 17
  | .vmem => 6
  | .smem => 0
  | _ => 0

abbrev bufTy : (tb : Table) → Fin (tcTables nBuf tb) → BufTy
  | .hbm, ⟨0, _⟩ => ⟨S36x20x256x64, .fp8e4m3⟩
  | .hbm, ⟨1, _⟩ => ⟨S36x20, .f32⟩
  | .hbm, ⟨2, _⟩ => ⟨S36x4x256x64, .fp8e4m3⟩
  | .hbm, ⟨3, _⟩ => ⟨S36x4, .f32⟩
  | .hbm, ⟨4, _⟩ => ⟨S36x4x256x64, .fp8e4m3⟩
  | .hbm, ⟨5, _⟩ => ⟨S36x4, .f32⟩
  | .hbm, ⟨6, _⟩ => ⟨S36x4x5x256x64, .fp8e4m3⟩
  | .hbm, ⟨7, _⟩ => ⟨S36x4x5, .f32⟩
  | .hbm, ⟨8, _⟩ => ⟨S36x4x1, .f32⟩
  | .hbm, ⟨9, _⟩ => ⟨S36x4x5, .f32⟩
  | .hbm, ⟨10, _⟩ => ⟨S36x4x5, .f32⟩
  | .hbm, ⟨11, _⟩ => ⟨S_, .f32⟩
  | .hbm, ⟨12, _⟩ => ⟨S36x4x5, .f32⟩
  | .hbm, ⟨13, _⟩ => ⟨S36x4x5, .f32⟩
  | .hbm, ⟨14, _⟩ => ⟨S36x4x5x1x1, .f32⟩
  | .hbm, ⟨15, _⟩ => ⟨S36x1x4x1x1, .f32⟩
  | .hbm, ⟨16, _⟩ => ⟨S36x256x1280, .bf16⟩
  | .local _ .vmem, ⟨0, _⟩ => ⟨S36x4x5x256x64, .fp8e4m3⟩
  | .local _ .vmem, ⟨1, _⟩ => ⟨S36x4x5x1x1, .f32⟩
  | .local _ .vmem, ⟨2, _⟩ => ⟨S36x4x256x64, .fp8e4m3⟩
  | .local _ .vmem, ⟨3, _⟩ => ⟨S36x4x256x64, .fp8e4m3⟩
  | .local _ .vmem, ⟨4, _⟩ => ⟨S36x1x4x1x1, .f32⟩
  | .local _ .vmem, ⟨5, _⟩ => ⟨S36x256x1280, .bf16⟩
  | _, _ => ⟨S36x20x256x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S36x4x5x256x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x4x5x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x4x256x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x4x256x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x1x4x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S36x256x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Math.lean ====
/- Hand-written, untrusted: THE MATHEMATICS, on extended reals, free of arrays. One query row of one head sees 256
   scores `s j`, 256 values `v j` and one scale. `refHead` is the attention of that row as the reference writes it:
   weights `exp (s j - max s)`, coded as `min 448 (max 0 (256 * weight))`. `kerHead` is the row as the kernel writes
   it: scores already multiplied by `1 / log 2`, weights `2 ^ (u j - (max u - 8))`, which are 256 times the
   reference's, so that the codes need no multiplication. `kerHead_eq` says that the two are the same extended real
   for all scores, values and scales, infinite ones included. -/
module

public import Idealize.ShloMosaic.PureOps.Ideal
public import Idealize.ShloMosaic.PureOps.Ideal.Laws
public import Mathlib.Data.Finset.Fold

@[expose] public section

noncomputable section

namespace Cert.Attn

open Idealize.ShloMosaic

/-- `1 / log 2`: what turns a power of `e` into a power of two. -/
def kap : ℝ := (Real.log 2)⁻¹

theorem kap_pos : 0 < kap := inv_pos.mpr (Real.log_pos (by norm_num))

/-- The greatest score (`-∞` over no score). -/
def mx (s : Fin 256 → EReal) : EReal := Finset.univ.fold max ⊥ s

/-- The row as the reference computes it. -/
def refHead (s v : Fin 256 → EReal) (vs : EReal) : EReal :=
  (∑ j, v j * min ((448 : ℝ) : EReal) (max 0 (Ideal.exp (s j - mx s) * ((256 : ℝ) : EReal))))
    * Ideal.div (vs * ((1 / 256 : ℝ) : EReal)) (∑ j, Ideal.exp (s j - mx s))

/-- The row as the kernel computes it. -/
def kerHead (u v : Fin 256 → EReal) (vs : EReal) : EReal :=
  (∑ j, v j * min ((448 : ℝ) : EReal) (max 0 (Ideal.exp2 (u j - (mx u - ((8 : ℝ) : EReal))))))
    * Ideal.div vs (∑ j, Ideal.exp2 (u j - (mx u - ((8 : ℝ) : EReal))))

/-- A positive real factor comes out of a maximum of two. -/
theorem max_mul_pos (κ : ℝ) (h : 0 < κ) (x y : EReal) :
    max x y * (κ : EReal) = max (x * (κ : EReal)) (y * (κ : EReal)) := by
  have hm : Monotone fun z : EReal => z * (κ : EReal) := fun a b hab =>
    mul_le_mul_of_nonneg_right hab (by exact_mod_cast h.le)
  exact hm.map_max

/-- … and out of the greatest score. -/
theorem mx_mul_pos (κ : ℝ) (h : 0 < κ) (s : Fin 256 → EReal) :
    mx (fun j => s j * (κ : EReal)) = mx s * (κ : EReal) := by
  have := Finset.fold_hom (s := (Finset.univ : Finset (Fin 256))) (op := max) (op' := max) (b := (⊥ : EReal)) (f := s)
    (m := fun z : EReal => z * (κ : EReal)) (fun x y => max_mul_pos κ h x y)
  unfold mx
  rw [← this]
  congr 1
  exact (EReal.bot_mul_coe_of_pos h).symm

/-- A real power of two by the exponential. -/
theorem rpow_two_kap (x : ℝ) : Real.rpow 2 (x * kap + 8) = 256 * Real.exp x := by
  have h2 : Real.log 2 ≠ 0 := (Real.log_pos (by norm_num)).ne'
  show (2 : ℝ) ^ (x * kap + 8) = _
  rw [Real.rpow_add (by norm_num), Real.rpow_def_of_pos (by norm_num)]
  have e1 : Real.log 2 * (x * kap) = x := by unfold kap; field_simp
  have e2 : (2 : ℝ) ^ (8 : ℝ) = 256 := by
    rw [show (8 : ℝ) = ((8 : ℕ) : ℝ) by norm_num, Real.rpow_natCast]; norm_num
  rw [e1, e2, mul_comm]

/-- A weight of the kernel is 256 times the weight of the reference. -/
theorem weight_eq (s M : EReal) :
    Ideal.exp2 (s * (kap : EReal) - (M * (kap : EReal) - ((8 : ℝ) : EReal))) = Ideal.exp (s - M) * ((256 : ℝ) : EReal) := by
  have hk := kap_pos
  have h256 : (0 : ℝ) < 256 := by norm_num
  induction s with
  | bot =>
    rw [EReal.bot_mul_coe_of_pos hk, EReal.bot_sub, EReal.bot_sub, Ideal.exp_bot, Ideal.exp2_bot, zero_mul]
  | top =>
    rw [EReal.top_mul_coe_of_pos hk]
    induction M with
    | bot =>
      rw [EReal.bot_mul_coe_of_pos hk, EReal.bot_sub, EReal.top_sub_bot, Ideal.exp_top, Ideal.exp2_top,
        EReal.top_mul_coe_of_pos h256]
    | top =>
      rw [EReal.top_mul_coe_of_pos hk, EReal.top_sub_coe, EReal.sub_top, Ideal.exp_bot, Ideal.exp2_bot, zero_mul]
    | coe M =>
      rw [← EReal.coe_mul, ← EReal.coe_sub, EReal.top_sub_coe, EReal.top_sub_coe, Ideal.exp_top, Ideal.exp2_top,
        EReal.top_mul_coe_of_pos h256]
  | coe s =>
    induction M with
    | bot =>
      rw [EReal.bot_mul_coe_of_pos hk, EReal.bot_sub, ← EReal.coe_mul, EReal.coe_sub_bot, EReal.coe_sub_bot,
        Ideal.exp_top, Ideal.exp2_top, EReal.top_mul_coe_of_pos h256]
    | top =>
      rw [EReal.top_mul_coe_of_pos hk, EReal.top_sub_coe, EReal.sub_top, EReal.sub_top, Ideal.exp_bot, Ideal.exp2_bot,
        zero_mul]
    | coe M =>
      rw [← EReal.coe_mul, ← EReal.coe_mul, ← EReal.coe_sub, ← EReal.coe_sub, ← EReal.coe_sub, Ideal.exp_coe,
        Ideal.exp2_coe, ← EReal.coe_mul, mul_comm (Real.exp _), ← rpow_two_kap]
      congr 2
      ring

/-- A weight of the reference is not negative. -/
theorem exp_nonneg (x : EReal) : 0 ≤ Ideal.exp x := by
  induction x
  · exact le_rfl
  · rw [Ideal.exp_coe]; exact_mod_cast (Real.exp_pos _).le
  · exact le_top

/-- A factor 256 comes out of a sum of terms none of which is negative. -/
theorem EReal_sum_mul {ι : Type} [Fintype ι] (f : ι → EReal) (hf : ∀ j, 0 ≤ f j) :
    (∑ j, f j) * ((256 : ℝ) : EReal) = ∑ j, f j * ((256 : ℝ) : EReal) := by
  classical
  have h256 : (0 : EReal) ≤ ((256 : ℝ) : EReal) := by exact_mod_cast (by norm_num : (0 : ℝ) ≤ 256)
  induction (Finset.univ : Finset ι) using Finset.induction_on with
  | empty => simp
  | insert a s ha ih =>
    rw [Finset.sum_insert ha, Finset.sum_insert ha, ← ih,
      EReal.right_distrib_of_nonneg (hf a) (Finset.sum_nonneg fun j _ => hf j)]

/-- Multiplying `vs` by `1 / 256` or the positive divisor by 256 is the same, when the other factor is zero wherever the
    divisor is. -/
theorem div_scale (o vs L : EReal) (hL : 0 ≤ L) (ho : L = 0 → o = 0) :
    o * Ideal.div vs (L * ((256 : ℝ) : EReal)) = o * Ideal.div (vs * ((1 / 256 : ℝ) : EReal)) L := by
  by_cases h0 : L = 0
  · rw [ho h0, zero_mul, zero_mul]
  · have h0' : L * ((256 : ℝ) : EReal) ≠ 0 := by
      rw [mul_ne_zero_iff]; exact ⟨h0, by norm_num⟩
    unfold Ideal.div
    rw [if_neg h0, if_neg h0', EReal.mul_inv, mul_assoc vs]
    congr 2
    rw [mul_comm, ← EReal.coe_inv]
    norm_num

/-- THE EQUATION: on scores multiplied by `1 / log 2` the kernel's row is the reference's row. -/
theorem kerHead_eq (s v : Fin 256 → EReal) (vs : EReal) :
    kerHead (fun j => s j * (kap : EReal)) v vs = refHead s v vs := by
  unfold kerHead refHead
  rw [mx_mul_pos kap kap_pos]
  simp only [weight_eq]
  have hsum : (∑ j, Ideal.exp (s j - mx s) * ((256 : ℝ) : EReal)) = (∑ j, Ideal.exp (s j - mx s)) * ((256 : ℝ) : EReal) := by
    exact (EReal_sum_mul _ fun j => exp_nonneg _).symm
  rw [hsum]
  refine div_scale _ _ _ (Finset.sum_nonneg fun j _ => exp_nonneg _) fun h => ?_
  have hz : ∀ j, Ideal.exp (s j - mx s) = 0 := fun j =>
    (Finset.sum_eq_zero_iff_of_nonneg fun j _ => exp_nonneg (s j - mx s)).mp h j (Finset.mem_univ j)
  refine Finset.sum_eq_zero fun j _ => ?_
  rw [hz j]
  simp

end Cert.Attn

end
-- ==== Proof.Head.lean ====
/- Hand-written, untrusted: WHAT ONE HEAD OF THE KERNEL COMPUTES. The kernel's body is unrolled over its twenty heads, and
   the payload terms of the skeleton cut the twenty copies at different places; `head` is the one function that all the
   copies are (a head's scores, weights, codes, product and scale, as a 64 by 256 block: one column per query row), `pair`
   what is stored for two heads (the two blocks one under the other, transposed). `head_apply` reads a head at an element,
   over extended reals: it is `kerHead` of the row's scores and of the head's column of values. -/
module

public import proofs.«01_k».proof.Proof.Gen.KernelIdeal.Value
public import proofs.«01_k».proof.Proof.Math
public import Idealize.ShloMosaic.Lib.Pointwise

@[expose] public section

set_option maxRecDepth 16384

noncomputable section

namespace Cert.Attn

open Cert.KernelIdeal Cert.KernelIdeal.Gen Idealize.ShloMosaic Idealize.ShloMosaic.TcCoe

section Any
variable {F : FTy → Type} [FloatOps F] [Named F]

/-- One head: `K` the head group's key rows, `vt` its values transposed, `qs ks vs` the three scales, `q` the query rows. -/
def head (K : FVec F S256x64 .fp8e4m3) (vt : FVec F S64x256 .fp8e4m3) (qs ks vs : Elt F .f32) (q : Vec F S1x1x256x64 .fp8e4m3) :
    FVec F S64x256 .bf16 :=
  k0_pay7 vt (k0_pay8 K qs ks q) (k0_pay9 K qs ks q) vs

/-- What is stored for two heads. -/
def pair (a b : FVec F S64x256 .bf16) : FVec F S1x256x128 .bf16 :=
  shapeCast S1x256x128 (transpose S256x128 [1, 0] (concatenate S128x256 0 [⟨S64x256, a⟩, ⟨S64x256, b⟩] concatenates_S64x256_S64x256_S128x256_d0) transposes_S128x256_p1_0_S256x128) shapeCasts_S256x128_S1x256x128

end Any

/-- The constant `log2 e / 8` as the certificate names it. -/
theorem named_c : (Named.named κ "scale_log2e" 0x3E38AA3B#32 : Ideal .f32) = (((1 / 8) * (Real.log 2)⁻¹ : ℝ) : EReal) := rfl

theorem c448 : Ideal.ofBits .f32 0x43E00000#32 = ((448 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
theorem cbot : Ideal.ofBits .f32 0xFF800000#32 = (⊥ : EReal) := by
  simp [Ideal.ofBits, Ideal.ieee]

/-- The words of two numbers below 64 are equal exactly when the numbers are. -/
theorem cmpi_eq_word (d x : Fin 64) :
    IntOp.cmpi .eq (BitVec.ofNat 32 d.val) (BitVec.ofNat 32 x.val) = if d = x then 1#1 else 0#1 := by
  revert d x; decide +kernel

/-- The values transposed: the product with the identity matrix only moves them. -/
theorem vt_apply (xv : Vec Ideal S1x1x256x64 .fp8e4m3) (d : Fin 64) (j : Fin 256) :
    k0_pay4 (F := Ideal) xv (ix2 d j) = xv (ix4 0 0 j d) := by
  pointwise [k0_pay4, k0_pay2]
  rw [Finset.sum_eq_single d]
  · rw [cmpi_eq_word, if_pos rfl]; rfl
  · intro x _ hx
    rw [cmpi_eq_word, if_neg (Ne.symm hx)]; rfl
  · intro h; exact absurd (Finset.mem_univ d) h

/-- A row's scores in the kernel, multiplied by `1 / log 2` already: query row `i` of `q` against the key rows `K`. -/
def uS (K : FVec Ideal S256x64 .fp8e4m3) (qs ks : EReal) (q : Vec Ideal S1x1x256x64 .fp8e4m3) (i : Fin 256) (j : Fin 256) : EReal :=
  (∑ e : Fin 64, K (ix2 j e) * q (ix4 0 0 i e)) * (qs * ks * (((1 / 8) * (Real.log 2)⁻¹ : ℝ) : EReal))

/-- A weight of the kernel: key `j`, query row `i`. -/
theorem weight_apply (K : FVec Ideal S256x64 .fp8e4m3) (qs ks : EReal) (q : Vec Ideal S1x1x256x64 .fp8e4m3) (j i : Fin 256) :
    k0_pay8 (F := Ideal) K qs ks q (ix2 j i) = Ideal.exp2 (uS K qs ks q i j - (mx (uS K qs ks q i) - ((8 : ℝ) : EReal))) := by
  pointwise [k0_pay8]
  rw [c8, cbot, named_c]
  rfl

/-- The sum of a query row's weights. -/
theorem wsum_apply (K : FVec Ideal S256x64 .fp8e4m3) (qs ks : EReal) (q : Vec Ideal S1x1x256x64 .fp8e4m3) (z : Fin 1) (i : Fin 256) :
    k0_pay9 (F := Ideal) K qs ks q (ix2 z i) = ∑ j : Fin 256, k0_pay8 (F := Ideal) K qs ks q (ix2 j i) := by
  pointwise [k0_pay9]

/-- A head's output from its weights, their sums and its values. -/
theorem out_apply (vt : FVec Ideal S64x256 .fp8e4m3) (p : FVec Ideal S256x256 .f32) (l : FVec Ideal S1x256 .f32) (vs : EReal)
    (d : Fin 64) (i : Fin 256) :
    k0_pay7 (F := Ideal) vt p l vs (ix2 d i)
      = (∑ j : Fin 256, vt (ix2 d j) * min ((448 : ℝ) : EReal) (max 0 (p (ix2 j i)))) * Ideal.div vs (l (ix2 0 i)) := by
  pointwise [k0_pay7]
  rw [c448]

/-- ONE HEAD AT AN ELEMENT: component `d` of query row `i`. -/
theorem head_apply (xk xv : Vec Ideal S1x1x256x64 .fp8e4m3) (qs ks vs : EReal) (q : Vec Ideal S1x1x256x64 .fp8e4m3)
    (d : Fin 64) (i : Fin 256) :
    head (F := Ideal) (k0_pay3 xk) (k0_pay4 xv) qs ks vs q (ix2 d i)
      = kerHead (fun j => (∑ e : Fin 64, xk (ix4 0 0 j e) * q (ix4 0 0 i e)) * (qs * ks * (((1 / 8) * (Real.log 2)⁻¹ : ℝ) : EReal)))
          (fun j => xv (ix4 0 0 j d)) vs := by
  unfold head
  rw [out_apply, wsum_apply]
  simp only [vt_apply, weight_apply]
  have hu : uS (k0_pay3 xk) qs ks q i
      = fun j => (∑ e : Fin 64, xk (ix4 0 0 j e) * q (ix4 0 0 i e)) * (qs * ks * (((1 / 8) * (Real.log 2)⁻¹ : ℝ) : EReal)) := by
    funext j
    unfold uS
    pointwise [k0_pay3]
  rw [hu]
  rfl

/-- WHAT IS STORED FOR TWO HEADS at an element: lanes 0 to 63 are the first head's, 64 to 127 the second's. -/
theorem pair_apply {F : FTy → Type} [FloatOps F] [Named F] (a b : FVec F S64x256 .bf16) (z : Fin 1) (i : Fin 256) (l : Fin 128) :
    pair a b (ix3 z i l) = if h : l.val < 64 then a (ix2 ⟨l.val, h⟩ i) else b (ix2 ⟨l.val - 64, by omega⟩ i) := by
  pointwise [pair]

end Cert.Attn

end
-- ==== Proof.Block.lean ====
/- Hand-written, untrusted: WHAT ONE BLOCK OF THE KERNEL HOLDS. The body stores its block in ten pieces of 128 lanes, two
   heads each; every piece is `pair` of two `head`s at the operands that it loads (`headAt`), so the block at query row
   `r` and lane `l` is head `l / 64` at component `l % 64`, with the keys, the values and the scales of group `l / 320`
   (`out_apply_A`). -/
module

public import proofs.«01_k».proof.Proof.Head
public import Idealize.ShloMosaic.Lib.Pipeline.ValueKit.Tiles
public import Idealize.ShloMosaic.Lib.Pipeline.ValueKit.Acc

@[expose] public section

set_option maxRecDepth 16384

noncomputable section

namespace Cert.Attn

open Cert.KernelIdeal Cert.KernelIdeal.Gen Idealize.ShloMosaic Idealize.ShloMosaic.TcCoe

/-- Component `d` of query row `r` of head `h` whose keys and values are group `kv`'s, as the kernel computes it from the
    scales of batch `b` and the codes of the batch. -/
def blockAt (x0 : Vec Ideal S36x20 .f32) (x1 x2 : Vec Ideal S36x4 .f32) (x3 : Vec Ideal S1x20x256x64 .fp8e4m3)
    (x4 x5 : Vec Ideal S1x4x256x64 .fp8e4m3) (b : Fin 36) (h : Fin 20) (kv : Fin 4) (r : Fin 256) (d : Fin 64) : EReal :=
  kerHead (fun j => (∑ e : Fin 64, x4 (ix4 0 kv j e) * x3 (ix4 0 h r e)) * (x0 (ix2 b h) * x1 (ix2 b kv) * (((1 / 8) * (Real.log 2)⁻¹ : ℝ) : EReal)))
    (fun j => x5 (ix4 0 kv j d)) (x2 (ix2 b kv))

section Any
variable {F : FTy → Type} [FloatOps F] [Named F]

/-- A head at the operands that the body loads for it. -/
def headAt (x0 : Vec F S36x20 .f32) (x1 x2 : Vec F S36x4 .f32) (x3 : Vec F S1x20x256x64 .fp8e4m3) (x4 x5 : Vec F S1x4x256x64 .fp8e4m3)
    (oq ok : Fin 2 → Nat) (h kv : Nat) (iq : ∀ a, oq a + S1x1.size a ≤ S36x20.size a) (ik : ∀ a, ok a + S1x1.size a ≤ S36x4.size a)
    (i3 : ∀ a, (![0, h, 0, 0] : Fin 4 → Nat) a + S1x1x256x64.size a ≤ S1x20x256x64.size a)
    (i4 : ∀ a, (![0, kv, 0, 0] : Fin 4 → Nat) a + S1x1x256x64.size a ≤ S1x4x256x64.size a) : FVec F S64x256 .bf16 :=
  head (k0_pay3 (View.ld x4 (Rect.unit ![0, kv, 0, 0] S1x1x256x64.size i4))) (k0_pay4 (View.ld x5 (Rect.unit ![0, kv, 0, 0] S1x1x256x64.size i4)))
    (View.ld x0 (Rect.unit oq S1x1.size iq) (Shape.Idx.first (numel1_S1x1.symm ▸ Nat.one_pos)))
    (View.ld x1 (Rect.unit ok S1x1.size ik) (Shape.Idx.first (numel1_S1x1.symm ▸ Nat.one_pos)))
    (View.ld x2 (Rect.unit ok S1x1.size ik) (Shape.Idx.first (numel1_S1x1.symm ▸ Nat.one_pos)))
    (View.ld x3 (Rect.unit ![0, h, 0, 0] S1x1x256x64.size i3))

end Any

variable (x0 : Vec Ideal S36x20 .f32) (x1 x2 : Vec Ideal S36x4 .f32) (x3 : Vec Ideal S1x20x256x64 .fp8e4m3)
    (x4 x5 : Vec Ideal S1x4x256x64 .fp8e4m3)

/-- A head at its loaded operands, at an element. -/
theorem headAt_apply (b : Fin 36) (h : Fin 20) (kv : Fin 4) (oq ok : Fin 2 → Nat) (hoq : oq = ![b.val, h.val]) (hok : ok = ![b.val, kv.val])
    (iq : ∀ a, oq a + S1x1.size a ≤ S36x20.size a) (ik : ∀ a, ok a + S1x1.size a ≤ S36x4.size a)
    (i3 : ∀ a, (![0, h.val, 0, 0] : Fin 4 → Nat) a + S1x1x256x64.size a ≤ S1x20x256x64.size a)
    (i4 : ∀ a, (![0, kv.val, 0, 0] : Fin 4 → Nat) a + S1x1x256x64.size a ≤ S1x4x256x64.size a) (d : Fin 64) (r : Fin 256) :
    headAt x0 x1 x2 x3 x4 x5 oq ok h.val kv.val iq ik i3 i4 (ix2 d r) = blockAt x0 x1 x2 x3 x4 x5 b h kv r d := by
  subst hoq hok
  unfold headAt blockAt
  rw [head_apply]
  have e0 : View.ld x0 (Rect.unit ![b.val, h.val] S1x1.size iq) (Shape.Idx.first (numel1_S1x1.symm ▸ Nat.one_pos)) = x0 (ix2 b h) :=
    congrArg x0 (by funext a; apply Fin.ext; rw [Rect.idx_unit_val]; match a with | ⟨0, _⟩ => rfl | ⟨1, _⟩ => rfl)
  have e1 (x : Vec Ideal S36x4 .f32) : View.ld x (Rect.unit ![b.val, kv.val] S1x1.size ik) (Shape.Idx.first (numel1_S1x1.symm ▸ Nat.one_pos)) = x (ix2 b kv) :=
    congrArg x (by funext a; apply Fin.ext; rw [Rect.idx_unit_val]; match a with | ⟨0, _⟩ => rfl | ⟨1, _⟩ => rfl)
  have e3 (j : Fin 256) (e : Fin 64) : View.ld x3 (Rect.unit ![0, h.val, 0, 0] S1x1x256x64.size i3) (ix4 0 0 j e) = x3 (ix4 0 h j e) :=
    congrArg x3 (by
      funext a; apply Fin.ext; rw [Rect.idx_unit_val]
      match a with | ⟨0, _⟩ => rfl | ⟨1, _⟩ => rfl | ⟨2, _⟩ => exact Nat.zero_add _ | ⟨3, _⟩ => exact Nat.zero_add _)
  have e4 (x : Vec Ideal S1x4x256x64 .fp8e4m3) (j : Fin 256) (e : Fin 64) :
      View.ld x (Rect.unit ![0, kv.val, 0, 0] S1x1x256x64.size i4) (ix4 0 0 j e) = x (ix4 0 kv j e) :=
    congrArg x (by
      funext a; apply Fin.ext; rw [Rect.idx_unit_val]
      match a with | ⟨0, _⟩ => rfl | ⟨1, _⟩ => rfl | ⟨2, _⟩ => exact Nat.zero_add _ | ⟨3, _⟩ => exact Nat.zero_add _)
  simp only [e0, e1 x1, e1 x2, e3, e4 x4, e4 x5]

/-- What the block holds at row `r` and lane `l`. -/
def blockG (b : Fin 36) (y : S1x256x1280.Idx) : EReal :=
  blockAt x0 x1 x2 x3 x4 x5 b ⟨(y 2).val / 64, by have : (y 2).val < 1280 := (y 2).isLt; omega⟩
    ⟨(y 2).val / 320, by have : (y 2).val < 1280 := (y 2).isLt; omega⟩ ⟨(y 1).val, (y 1).isLt⟩ ⟨(y 2).val % 64, Nat.mod_lt _ (by norm_num)⟩

/-- Two heads, stored at lanes `128 p` to `128 p + 127`, are what the block holds there. -/
theorem pair_piece (b : Fin 36) (p o : Nat) (hp : p < 10) (ho : o = 128 * p) (inb : ∀ a, (![0, 0, o] : Fin 3 → Nat) a + S1x256x128.size a ≤ S1x256x1280.size a)
    (u v : FVec Ideal S64x256 .bf16)
    (hu : ∀ d r, u (ix2 d r) = blockAt x0 x1 x2 x3 x4 x5 b ⟨2 * p, by omega⟩ ⟨2 * p / 5, by omega⟩ r d)
    (hv : ∀ d r, v (ix2 d r) = blockAt x0 x1 x2 x3 x4 x5 b ⟨2 * p + 1, by omega⟩ ⟨(2 * p + 1) / 5, by omega⟩ r d) (x : S1x256x128.Idx) :
    pair u v x = blockG x0 x1 x2 x3 x4 x5 b ((Rect.unit (s := S1x256x1280) ![0, 0, o] S1x256x128.size inb).emb x) := by
  subst ho
  obtain ⟨z, r, l, rfl⟩ : ∃ z r l, x = ix3 z r l := ⟨_, _, _, (ix3_eta x).symm⟩
  rw [pair_apply]
  have h1 : ((Rect.unit (s := S1x256x1280) ![0, 0, 128 * p] S1x256x128.size inb).emb (ix3 z r l) 1).val = r.val :=
    (Rect.idx_unit_val ..).trans (Nat.zero_add _)
  have h2 : ((Rect.unit (s := S1x256x1280) ![0, 0, 128 * p] S1x256x128.size inb).emb (ix3 z r l) 2).val = 128 * p + l.val :=
    Rect.idx_unit_val ..
  have hl : l.val < 128 := l.isLt
  unfold blockG
  split_ifs with h
  · rw [hu]; congr 1 <;> apply Fin.ext <;> simp only [h1, h2] <;> omega
  · rw [hv]; congr 1 <;> apply Fin.ext <;> simp only [h1, h2] <;> omega

/-- THE BLOCK AT AN ELEMENT. -/
theorem out_apply_A (c : Dev nD) (i : grid0.Coords) (arg1 : Memref sig .tc .smem S36x20 .f32) (harg1 : arg1.IsWhole) (arg2 : Memref sig .tc .smem S36x4 .f32) (harg2 : arg2.IsWhole)
    (arg3 : Memref sig .tc .smem S36x4 .f32) (harg3 : arg3.IsWhole) (arg4 : Memref sig .tc .vmem S1x20x256x64 .fp8e4m3) (harg4 : arg4.IsWhole) (arg5 : Memref sig .tc .vmem S1x4x256x64 .fp8e4m3) (harg5 : arg5.IsWhole)
    (arg6 : Memref sig .tc .vmem S1x4x256x64 .fp8e4m3) (harg6 : arg6.IsWhole) (arg7 : Memref sig .tc .vmem S1x256x1280 .bf16) (harg7 : arg7.IsWhole) (y : S1x256x1280.Idx) :
    out0_A_6 c i arg1 harg1 arg2 harg2 arg3 harg3 arg4 harg4 arg5 harg5 arg6 harg6 arg7 harg7 x0 x1 x2 x3 x4 x5 y = blockG x0 x1 x2 x3 x4 x5 (i 0) y := by
  frame_out
  refine View.canon_apply_of_pieces (S := S1x256x1280) (e := .bf16) (Val := Elt Ideal) (blockG x0 x1 x2 x3 x4 x5 (i 0)) _ ?_ y ?_; swap
  · exact View.cover_of_tiledL (s := S1x256x1280) _ S1x256x128.size (by sl_kernel_rfl) y
  intro pc hpc x
  rcases List.mem_cons.mp hpc with rfl | hpc
  · exact pair_piece x0 x1 x2 x3 x4 x5 (i 0) 9 1152 (by norm_num) rfl inb_S1x256x1280_S1x256x128_0_0_1152
      (headAt x0 x1 x2 x3 x4 x5 (k0_off23 i) (k0_off20 i) 18 3 (k0_off23_inb i) (k0_off20_inb i) inb_S1x20x256x64_S1x1x256x64_0_18_0_0 inb_S1x4x256x64_S1x1x256x64_0_3_0_0)
      (headAt x0 x1 x2 x3 x4 x5 (k0_off24 i) (k0_off20 i) 19 3 (k0_off24_inb i) (k0_off20_inb i) inb_S1x20x256x64_S1x1x256x64_0_19_0_0 inb_S1x4x256x64_S1x1x256x64_0_3_0_0)
      (headAt_apply x0 x1 x2 x3 x4 x5 (i 0) 18 3 (k0_off23 i) (k0_off20 i) (k0_off23_eq i) (k0_off20_eq i) (k0_off23_inb i) (k0_off20_inb i) inb_S1x20x256x64_S1x1x256x64_0_18_0_0 inb_S1x4x256x64_S1x1x256x64_0_3_0_0)
      (headAt_apply x0 x1 x2 x3 x4 x5 (i 0) 19 3 (k0_off24 i) (k0_off20 i) (k0_off24_eq i) (k0_off20_eq i) (k0_off24_inb i) (k0_off20_inb i) inb_S1x20x256x64_S1x1x256x64_0_19_0_0 inb_S1x4x256x64_S1x1x256x64_0_3_0_0) x
  rcases List.mem_cons.mp hpc with rfl | hpc
  · exact pair_piece x0 x1 x2 x3 x4 x5 (i 0) 8 1024 (by norm_num) rfl inb_S1x256x1280_S1x256x128_0_0_1024
      (headAt x0 x1 x2 x3 x4 x5 (k0_off21 i) (k0_off20 i) 16 3 (k0_off21_inb i) (k0_off20_inb i) inb_S1x20x256x64_S1x1x256x64_0_16_0_0 inb_S1x4x256x64_S1x1x256x64_0_3_0_0)
      (headAt x0 x1 x2 x3 x4 x5 (k0_off22 i) (k0_off20 i) 17 3 (k0_off22_inb i) (k0_off20_inb i) inb_S1x20x256x64_S1x1x256x64_0_17_0_0 inb_S1x4x256x64_S1x1x256x64_0_3_0_0)
      (headAt_apply x0 x1 x2 x3 x4 x5 (i 0) 16 3 (k0_off21 i) (k0_off20 i) (k0_off21_eq i) (k0_off20_eq i) (k0_off21_inb i) (k0_off20_inb i) inb_S1x20x256x64_S1x1x256x64_0_16_0_0 inb_S1x4x256x64_S1x1x256x64_0_3_0_0)
      (headAt_apply x0 x1 x2 x3 x4 x5 (i 0) 17 3 (k0_off22 i) (k0_off20 i) (k0_off22_eq i) (k0_off20_eq i) (k0_off22_inb i) (k0_off20_inb i) inb_S1x20x256x64_S1x1x256x64_0_17_0_0 inb_S1x4x256x64_S1x1x256x64_0_3_0_0) x
  rcases List.mem_cons.mp hpc with rfl | hpc
  · exact pair_piece x0 x1 x2 x3 x4 x5 (i 0) 7 896 (by norm_num) rfl inb_S1x256x1280_S1x256x128_0_0_896
      (headAt x0 x1 x2 x3 x4 x5 (k0_off18 i) (k0_off14 i) 14 2 (k0_off18_inb i) (k0_off14_inb i) inb_S1x20x256x64_S1x1x256x64_0_14_0_0 inb_S1x4x256x64_S1x1x256x64_0_2_0_0)
      (headAt x0 x1 x2 x3 x4 x5 (k0_off19 i) (k0_off20 i) 15 3 (k0_off19_inb i) (k0_off20_inb i) inb_S1x20x256x64_S1x1x256x64_0_15_0_0 inb_S1x4x256x64_S1x1x256x64_0_3_0_0)
      (headAt_apply x0 x1 x2 x3 x4 x5 (i 0) 14 2 (k0_off18 i) (k0_off14 i) (k0_off18_eq i) (k0_off14_eq i) (k0_off18_inb i) (k0_off14_inb i) inb_S1x20x256x64_S1x1x256x64_0_14_0_0 inb_S1x4x256x64_S1x1x256x64_0_2_0_0)
      (headAt_apply x0 x1 x2 x3 x4 x5 (i 0) 15 3 (k0_off19 i) (k0_off20 i) (k0_off19_eq i) (k0_off20_eq i) (k0_off19_inb i) (k0_off20_inb i) inb_S1x20x256x64_S1x1x256x64_0_15_0_0 inb_S1x4x256x64_S1x1x256x64_0_3_0_0) x
  rcases List.mem_cons.mp hpc with rfl | hpc
  · exact pair_piece x0 x1 x2 x3 x4 x5 (i 0) 6 768 (by norm_num) rfl inb_S1x256x1280_S1x256x128_0_0_768
      (headAt x0 x1 x2 x3 x4 x5 (k0_off16 i) (k0_off14 i) 12 2 (k0_off16_inb i) (k0_off14_inb i) inb_S1x20x256x64_S1x1x256x64_0_12_0_0 inb_S1x4x256x64_S1x1x256x64_0_2_0_0)
      (headAt x0 x1 x2 x3 x4 x5 (k0_off17 i) (k0_off14 i) 13 2 (k0_off17_inb i) (k0_off14_inb i) inb_S1x20x256x64_S1x1x256x64_0_13_0_0 inb_S1x4x256x64_S1x1x256x64_0_2_0_0)
      (headAt_apply x0 x1 x2 x3 x4 x5 (i 0) 12 2 (k0_off16 i) (k0_off14 i) (k0_off16_eq i) (k0_off14_eq i) (k0_off16_inb i) (k0_off14_inb i) inb_S1x20x256x64_S1x1x256x64_0_12_0_0 inb_S1x4x256x64_S1x1x256x64_0_2_0_0)
      (headAt_apply x0 x1 x2 x3 x4 x5 (i 0) 13 2 (k0_off17 i) (k0_off14 i) (k0_off17_eq i) (k0_off14_eq i) (k0_off17_inb i) (k0_off14_inb i) inb_S1x20x256x64_S1x1x256x64_0_13_0_0 inb_S1x4x256x64_S1x1x256x64_0_2_0_0) x
  rcases List.mem_cons.mp hpc with rfl | hpc
  · exact pair_piece x0 x1 x2 x3 x4 x5 (i 0) 5 640 (by norm_num) rfl inb_S1x256x1280_S1x256x128_0_0_640
      (headAt x0 x1 x2 x3 x4 x5 (k0_off13 i) (k0_off14 i) 10 2 (k0_off13_inb i) (k0_off14_inb i) inb_S1x20x256x64_S1x1x256x64_0_10_0_0 inb_S1x4x256x64_S1x1x256x64_0_2_0_0)
      (headAt x0 x1 x2 x3 x4 x5 (k0_off15 i) (k0_off14 i) 11 2 (k0_off15_inb i) (k0_off14_inb i) inb_S1x20x256x64_S1x1x256x64_0_11_0_0 inb_S1x4x256x64_S1x1x256x64_0_2_0_0)
      (headAt_apply x0 x1 x2 x3 x4 x5 (i 0) 10 2 (k0_off13 i) (k0_off14 i) (k0_off13_eq i) (k0_off14_eq i) (k0_off13_inb i) (k0_off14_inb i) inb_S1x20x256x64_S1x1x256x64_0_10_0_0 inb_S1x4x256x64_S1x1x256x64_0_2_0_0)
      (headAt_apply x0 x1 x2 x3 x4 x5 (i 0) 11 2 (k0_off15 i) (k0_off14 i) (k0_off15_eq i) (k0_off14_eq i) (k0_off15_inb i) (k0_off14_inb i) inb_S1x20x256x64_S1x1x256x64_0_11_0_0 inb_S1x4x256x64_S1x1x256x64_0_2_0_0) x
  rcases List.mem_cons.mp hpc with rfl | hpc
  · exact pair_piece x0 x1 x2 x3 x4 x5 (i 0) 4 512 (by norm_num) rfl inb_S1x256x1280_S1x256x128_0_0_512
      (headAt x0 x1 x2 x3 x4 x5 (k0_off11 i) (k0_off8 i) 8 1 (k0_off11_inb i) (k0_off8_inb i) inb_S1x20x256x64_S1x1x256x64_0_8_0_0 inb_S1x4x256x64_S1x1x256x64_0_1_0_0)
      (headAt x0 x1 x2 x3 x4 x5 (k0_off12 i) (k0_off8 i) 9 1 (k0_off12_inb i) (k0_off8_inb i) inb_S1x20x256x64_S1x1x256x64_0_9_0_0 inb_S1x4x256x64_S1x1x256x64_0_1_0_0)
      (headAt_apply x0 x1 x2 x3 x4 x5 (i 0) 8 1 (k0_off11 i) (k0_off8 i) (k0_off11_eq i) (k0_off8_eq i) (k0_off11_inb i) (k0_off8_inb i) inb_S1x20x256x64_S1x1x256x64_0_8_0_0 inb_S1x4x256x64_S1x1x256x64_0_1_0_0)
      (headAt_apply x0 x1 x2 x3 x4 x5 (i 0) 9 1 (k0_off12 i) (k0_off8 i) (k0_off12_eq i) (k0_off8_eq i) (k0_off12_inb i) (k0_off8_inb i) inb_S1x20x256x64_S1x1x256x64_0_9_0_0 inb_S1x4x256x64_S1x1x256x64_0_1_0_0) x
  rcases List.mem_cons.mp hpc with rfl | hpc
  · exact pair_piece x0 x1 x2 x3 x4 x5 (i 0) 3 384 (by norm_num) rfl inb_S1x256x1280_S1x256x128_0_0_384
      (headAt x0 x1 x2 x3 x4 x5 (k0_off9 i) (k0_off8 i) 6 1 (k0_off9_inb i) (k0_off8_inb i) inb_S1x20x256x64_S1x1x256x64_0_6_0_0 inb_S1x4x256x64_S1x1x256x64_0_1_0_0)
      (headAt x0 x1 x2 x3 x4 x5 (k0_off10 i) (k0_off8 i) 7 1 (k0_off10_inb i) (k0_off8_inb i) inb_S1x20x256x64_S1x1x256x64_0_7_0_0 inb_S1x4x256x64_S1x1x256x64_0_1_0_0)
      (headAt_apply x0 x1 x2 x3 x4 x5 (i 0) 6 1 (k0_off9 i) (k0_off8 i) (k0_off9_eq i) (k0_off8_eq i) (k0_off9_inb i) (k0_off8_inb i) inb_S1x20x256x64_S1x1x256x64_0_6_0_0 inb_S1x4x256x64_S1x1x256x64_0_1_0_0)
      (headAt_apply x0 x1 x2 x3 x4 x5 (i 0) 7 1 (k0_off10 i) (k0_off8 i) (k0_off10_eq i) (k0_off8_eq i) (k0_off10_inb i) (k0_off8_inb i) inb_S1x20x256x64_S1x1x256x64_0_7_0_0 inb_S1x4x256x64_S1x1x256x64_0_1_0_0) x
  rcases List.mem_cons.mp hpc with rfl | hpc
  · exact pair_piece x0 x1 x2 x3 x4 x5 (i 0) 2 256 (by norm_num) rfl inb_S1x256x1280_S1x256x128_0_0_256
      (headAt x0 x1 x2 x3 x4 x5 (k0_off6 i) (k0_off2 i) 4 0 (k0_off6_inb i) (k0_off2_inb i) inb_S1x20x256x64_S1x1x256x64_0_4_0_0 inb_S1x4x256x64_S1x1x256x64_0_0_0_0)
      (headAt x0 x1 x2 x3 x4 x5 (k0_off7 i) (k0_off8 i) 5 1 (k0_off7_inb i) (k0_off8_inb i) inb_S1x20x256x64_S1x1x256x64_0_5_0_0 inb_S1x4x256x64_S1x1x256x64_0_1_0_0)
      (headAt_apply x0 x1 x2 x3 x4 x5 (i 0) 4 0 (k0_off6 i) (k0_off2 i) (k0_off6_eq i) (k0_off2_eq i) (k0_off6_inb i) (k0_off2_inb i) inb_S1x20x256x64_S1x1x256x64_0_4_0_0 inb_S1x4x256x64_S1x1x256x64_0_0_0_0)
      (headAt_apply x0 x1 x2 x3 x4 x5 (i 0) 5 1 (k0_off7 i) (k0_off8 i) (k0_off7_eq i) (k0_off8_eq i) (k0_off7_inb i) (k0_off8_inb i) inb_S1x20x256x64_S1x1x256x64_0_5_0_0 inb_S1x4x256x64_S1x1x256x64_0_1_0_0) x
  rcases List.mem_cons.mp hpc with rfl | hpc
  · exact pair_piece x0 x1 x2 x3 x4 x5 (i 0) 1 128 (by norm_num) rfl inb_S1x256x1280_S1x256x128_0_0_128
      (headAt x0 x1 x2 x3 x4 x5 (k0_off4 i) (k0_off2 i) 2 0 (k0_off4_inb i) (k0_off2_inb i) inb_S1x20x256x64_S1x1x256x64_0_2_0_0 inb_S1x4x256x64_S1x1x256x64_0_0_0_0)
      (headAt x0 x1 x2 x3 x4 x5 (k0_off5 i) (k0_off2 i) 3 0 (k0_off5_inb i) (k0_off2_inb i) inb_S1x20x256x64_S1x1x256x64_0_3_0_0 inb_S1x4x256x64_S1x1x256x64_0_0_0_0)
      (headAt_apply x0 x1 x2 x3 x4 x5 (i 0) 2 0 (k0_off4 i) (k0_off2 i) (k0_off4_eq i) (k0_off2_eq i) (k0_off4_inb i) (k0_off2_inb i) inb_S1x20x256x64_S1x1x256x64_0_2_0_0 inb_S1x4x256x64_S1x1x256x64_0_0_0_0)
      (headAt_apply x0 x1 x2 x3 x4 x5 (i 0) 3 0 (k0_off5 i) (k0_off2 i) (k0_off5_eq i) (k0_off2_eq i) (k0_off5_inb i) (k0_off2_inb i) inb_S1x20x256x64_S1x1x256x64_0_3_0_0 inb_S1x4x256x64_S1x1x256x64_0_0_0_0) x
  rcases List.mem_cons.mp hpc with rfl | hpc
  · exact pair_piece x0 x1 x2 x3 x4 x5 (i 0) 0 0 (by norm_num) rfl inb_S1x256x1280_S1x256x128_0_0_0
      (headAt x0 x1 x2 x3 x4 x5 (k0_off1 i) (k0_off2 i) 0 0 (k0_off1_inb i) (k0_off2_inb i) inb_S1x20x256x64_S1x1x256x64_0_0_0_0 inb_S1x4x256x64_S1x1x256x64_0_0_0_0)
      (headAt x0 x1 x2 x3 x4 x5 (k0_off3 i) (k0_off2 i) 1 0 (k0_off3_inb i) (k0_off2_inb i) inb_S1x20x256x64_S1x1x256x64_0_1_0_0 inb_S1x4x256x64_S1x1x256x64_0_0_0_0)
      (headAt_apply x0 x1 x2 x3 x4 x5 (i 0) 0 0 (k0_off1 i) (k0_off2 i) (k0_off1_eq i) (k0_off2_eq i) (k0_off1_inb i) (k0_off2_inb i) inb_S1x20x256x64_S1x1x256x64_0_0_0_0 inb_S1x4x256x64_S1x1x256x64_0_0_0_0)
      (headAt_apply x0 x1 x2 x3 x4 x5 (i 0) 1 0 (k0_off3 i) (k0_off2 i) (k0_off3_eq i) (k0_off2_eq i) (k0_off3_inb i) (k0_off2_inb i) inb_S1x20x256x64_S1x1x256x64_0_1_0_0 inb_S1x4x256x64_S1x1x256x64_0_0_0_0) x
  nomatch hpc

end Cert.Attn

end
-- ==== Proof.KernelRun.lean ====
/- Hand-written, untrusted: WHAT THE KERNEL'S RUN LEAVES, in terms of the arguments. Grid point `t` stages batch `t` of the
   three arrays of codes and the three whole arrays of scales, and writes batch `t` of the result; so the result at batch
   `b`, query row `r` and lane `l` is `kerHead` of that row's scores and of that head's column of values
   (`result_apply`). -/
module

public import proofs.«01_k».proof.Proof.Block
public import Idealize.ShloMosaic.Lib.Pipeline.ValueKit.Point

@[expose] public section

set_option maxRecDepth 16384

noncomputable section

namespace Cert.Attn

open Cert.KernelIdeal Cert.KernelIdeal.Gen Idealize.ShloMosaic Idealize.ShloMosaic.TcCoe

/-- Component `d` of query row `r` of head `h` in batch `b`, as the kernel computes it from the arguments. -/
def kerAt (q : Vec Ideal S36x20x256x64 .fp8e4m3) (qs : Vec Ideal S36x20 .f32) (k : Vec Ideal S36x4x256x64 .fp8e4m3) (ks : Vec Ideal S36x4 .f32)
    (v : Vec Ideal S36x4x256x64 .fp8e4m3) (vs : Vec Ideal S36x4 .f32) (b : Fin 36) (h : Fin 20) (kv : Fin 4) (r : Fin 256) (d : Fin 64) : EReal :=
  kerHead (fun j => (∑ e : Fin 64, k (ix4 b kv j e) * q (ix4 b h r e)) * (qs (ix2 b h) * ks (ix2 b kv) * (((1 / 8) * (Real.log 2)⁻¹ : ℝ) : EReal)))
    (fun j => v (ix4 b kv j d)) (vs (ix2 b kv))

variable (m : (ℓ : Loc nD τ sig) → Buf (Elt Ideal) ℓ)

/-- The point at which batch `b` is done. -/
def pt (b : Fin 36) : Fin cfg0.N := ⟨b.val, lt_of_lt_of_eq b.isLt (by decide)⟩

/-- The windows' block indices: the arrays of scales whole, the others by batch. -/
theorem idx_facts : ∀ t : Fin cfg0.N,
    (grid0.coords t 0).val = t.val
    ∧ (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 4) = t.val ∧ win0_5.index t (1 : Fin 4) = 0 ∧ win0_5.index t (2 : Fin 4) = 0 ∧ win0_5.index t (3 : Fin 4) = 0)
    ∧ (win0_6.index t (0 : Fin 3) = t.val ∧ win0_6.index t (1 : Fin 3) = 0 ∧ win0_6.index t (2 : Fin 3) = 0) :=
  (by decide +kernel : ∀ t : Fin grid0.N, _)

/-- The point of batch `b` has coordinate `b`. -/
theorem coord_pt (b : Fin 36) : grid0.coords (pt b) 0 = b := Fin.ext (idx_facts (pt b)).1

theorem iblk0_apply (c : Dev nD) (t : Fin cfg0.N) (x : Fin 36) (y : Fin 20) :
    iblk m c 0 t (ix2 x y) = m ((c : Thread nD τ).loc main_arg1) (ix2 x y) := by
  obtain ⟨_, ⟨e0, e1⟩, _⟩ := idx_facts t
  refine Eq.trans ?_ (congrFun (V_main_arg1 m c) (ix2 x y))
  show V m c main_arg1 (((cfg0.win 0).blk t).view.emb (ix2 x y)) = _
  refine congrArg (V m c main_arg1) (funext fun a => Fin.ext ?_)
  match a with
  | ⟨0, _⟩ => show win0_0.index t (0 : Fin 2) * 36 + 1 * x.val = x.val; omega
  | ⟨1, _⟩ => show win0_0.index t (1 : Fin 2) * 20 + 1 * y.val = y.val; omega

theorem iblk1_apply (c : Dev nD) (t : Fin cfg0.N) (x : Fin 36) (y : Fin 4) :
    iblk m c 1 t (ix2 x y) = m ((c : Thread nD τ).loc main_arg3) (ix2 x y) := by
  obtain ⟨_, _, ⟨e0, e1⟩, _⟩ := idx_facts t
  refine Eq.trans ?_ (congrFun (V_main_arg3 m c) (ix2 x y))
  show V m c main_arg3 (((cfg0.win 1).blk t).view.emb (ix2 x y)) = _
  refine congrArg (V m c main_arg3) (funext fun a => Fin.ext ?_)
  match a with
  | ⟨0, _⟩ => show win0_1.index t (0 : Fin 2) * 36 + 1 * x.val = x.val; omega
  | ⟨1, _⟩ => show win0_1.index t (1 : Fin 2) * 4 + 1 * y.val = y.val; omega

theorem iblk2_apply (c : Dev nD) (t : Fin cfg0.N) (x : Fin 36) (y : Fin 4) :
    iblk m c 2 t (ix2 x y) = m ((c : Thread nD τ).loc main_arg5) (ix2 x y) := by
  obtain ⟨_, _, _, ⟨e0, e1⟩, _⟩ := idx_facts t
  refine Eq.trans ?_ (congrFun (V_main_arg5 m c) (ix2 x y))
  show V m c main_arg5 (((cfg0.win 2).blk t).view.emb (ix2 x y)) = _
  refine congrArg (V m c main_arg5) (funext fun a => Fin.ext ?_)
  match a with
  | ⟨0, _⟩ => show win0_2.index t (0 : Fin 2) * 36 + 1 * x.val = x.val; omega
  | ⟨1, _⟩ => show win0_2.index t (1 : Fin 2) * 4 + 1 * y.val = y.val; omega

theorem iblk3_apply (c : Dev nD) (b : Fin 36) (h : Fin 20) (r : Fin 256) (e : Fin 64) :
    iblk m c 3 (pt b) (ix4 0 h r e) = m ((c : Thread nD τ).loc main_arg0) (ix4 b h r e) := by
  obtain ⟨_, _, _, _, ⟨e0, e1, e2, e3⟩, _⟩ := idx_facts (pt b)
  have hb : (pt b).val = b.val := rfl
  refine Eq.trans ?_ (congrFun (V_main_arg0 m c) (ix4 b h r e))
  show V m c main_arg0 (((cfg0.win 3).blk (pt b)).view.emb (ix4 0 h r e)) = _
  refine congrArg (V m c main_arg0) (funext fun a => Fin.ext ?_)
  match a with
  | ⟨0, _⟩ => show win0_3.index (pt b) (0 : Fin 4) * 1 + 1 * 0 = b.val; omega
  | ⟨1, _⟩ => show win0_3.index (pt b) (1 : Fin 4) * 20 + 1 * h.val = h.val; omega
  | ⟨2, _⟩ => show win0_3.index (pt b) (2 : Fin 4) * 256 + 1 * r.val = r.val; omega
  | ⟨3, _⟩ => show win0_3.index (pt b) (3 : Fin 4) * 64 + 1 * e.val = e.val; omega

theorem iblk4_apply (c : Dev nD) (b : Fin 36) (h : Fin 4) (r : Fin 256) (e : Fin 64) :
    iblk m c 4 (pt b) (ix4 0 h r e) = m ((c : Thread nD τ).loc main_arg2) (ix4 b h r e) := by
  obtain ⟨_, _, _, _, _, ⟨e0, e1, e2, e3⟩, _⟩ := idx_facts (pt b)
  have hb : (pt b).val = b.val := rfl
  refine Eq.trans ?_ (congrFun (V_main_arg2 m c) (ix4 b h r e))
  show V m c main_arg2 (((cfg0.win 4).blk (pt b)).view.emb (ix4 0 h r e)) = _
  refine congrArg (V m c main_arg2) (funext fun a => Fin.ext ?_)
  match a with
  | ⟨0, _⟩ => show win0_4.index (pt b) (0 : Fin 4) * 1 + 1 * 0 = b.val; omega
  | ⟨1, _⟩ => show win0_4.index (pt b) (1 : Fin 4) * 4 + 1 * h.val = h.val; omega
  | ⟨2, _⟩ => show win0_4.index (pt b) (2 : Fin 4) * 256 + 1 * r.val = r.val; omega
  | ⟨3, _⟩ => show win0_4.index (pt b) (3 : Fin 4) * 64 + 1 * e.val = e.val; omega

theorem iblk5_apply (c : Dev nD) (b : Fin 36) (h : Fin 4) (r : Fin 256) (e : Fin 64) :
    iblk m c 5 (pt b) (ix4 0 h r e) = m ((c : Thread nD τ).loc main_arg4) (ix4 b h r e) := by
  obtain ⟨_, _, _, _, _, _, ⟨e0, e1, e2, e3⟩, _⟩ := idx_facts (pt b)
  have hb : (pt b).val = b.val := rfl
  refine Eq.trans ?_ (congrFun (V_main_arg4 m c) (ix4 b h r e))
  show V m c main_arg4 (((cfg0.win 5).blk (pt b)).view.emb (ix4 0 h r e)) = _
  refine congrArg (V m c main_arg4) (funext fun a => Fin.ext ?_)
  match a with
  | ⟨0, _⟩ => show win0_5.index (pt b) (0 : Fin 4) * 1 + 1 * 0 = b.val; omega
  | ⟨1, _⟩ => show win0_5.index (pt b) (1 : Fin 4) * 4 + 1 * h.val = h.val; omega
  | ⟨2, _⟩ => show win0_5.index (pt b) (2 : Fin 4) * 256 + 1 * r.val = r.val; omega
  | ⟨3, _⟩ => show win0_5.index (pt b) (3 : Fin 4) * 64 + 1 * e.val = e.val; omega

/-- Where batch `b`'s block of the result lies. -/
theorem emb6 (b : Fin 36) (r : Fin 256) (l : Fin 1280) : ((cfg0.win 6).blk (pt b)).view.emb (ix3 0 r l) = ix3 b r l := by
  obtain ⟨_, _, _, _, _, _, _, e0, e1, e2⟩ := idx_facts (pt b)
  have hb : (pt b).val = b.val := rfl
  funext a; apply Fin.ext
  match a with
  | ⟨0, _⟩ => show win0_6.index (pt b) (0 : Fin 3) * 1 + 1 * 0 = b.val; omega
  | ⟨1, _⟩ => show win0_6.index (pt b) (1 : Fin 3) * 256 + 1 * r.val = r.val; omega
  | ⟨2, _⟩ => show win0_6.index (pt b) (2 : Fin 3) * 1280 + 1 * l.val = l.val; omega

/-- THE RESULT AT AN ELEMENT: batch `b`, query row `r`, lane `l`. -/
theorem result_apply (c : Dev nD) (b : Fin 36) (r : Fin 256) (l : Fin 1280) (h : Fin 20) (kv : Fin 4) (d : Fin 64)
    (hh : h.val = l.val / 64) (hkv : kv.val = l.val / 320) (hd : d.val = l.val % 64) :
    (dats m 0 c).arrAt 6 cfg0.N (ix3 b r l)
      = kerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b h kv r d := by
  have q := congrFun (Cert.KernelIdeal.Value.blocks6 m c (pt b) (flush0_6 (pt b))) (ix3 0 r l)
  rw [Cert.KernelIdeal.Value.flushed6_A] at q
  have q' : (dats m 0 c).arrAt 6 cfg0.N (((cfg0.win 6).blk (pt b)).view.emb (ix3 0 r l))
      = out0_A_6 c (grid0.coords (pt b)) (ms0_0 (pt b)) (hs0_0 (pt b)) (ms0_1 (pt b)) (hs0_1 (pt b)) (ms0_2 (pt b)) (hs0_2 (pt b)) (ms0_3 (pt b)) (hs0_3 (pt b)) (ms0_4 (pt b)) (hs0_4 (pt b)) (ms0_5 (pt b)) (hs0_5 (pt b)) (ms0_6 (pt b)) (hs0_6 (pt b)) (iblk m c 0 (pt b)) (iblk m c 1 (pt b)) (iblk m c 2 (pt b)) (iblk m c 3 (pt b)) (iblk m c 4 (pt b)) (iblk m c 5 (pt b)) (ix3 0 r l) := q
  rw [emb6, out_apply_A] at q'
  refine q'.trans ?_
  have eh : (⟨l.val / 64, by omega⟩ : Fin 20) = h := Fin.ext hh.symm
  have ekv : (⟨l.val / 320, by omega⟩ : Fin 4) = kv := Fin.ext hkv.symm
  have ed : (⟨l.val % 64, by omega⟩ : Fin 64) = d := Fin.ext hd.symm
  rw [coord_pt]
  show blockAt _ _ _ _ _ _ b ⟨l.val / 64, by omega⟩ ⟨l.val / 320, by omega⟩ r ⟨l.val % 64, by omega⟩ = _
  rw [eh, ekv, ed]
  unfold blockAt kerAt
  simp only [iblk0_apply, iblk1_apply, iblk2_apply, iblk3_apply, iblk4_apply, iblk5_apply]

end Cert.Attn

end
-- ==== Proof.Reference.lean ====
/- Hand-written, untrusted: WHAT THE REFERENCE'S BLOCK HOLDS. Its one block is the whole result. At batch `b`, query row
   `r` and lane `l` it is `refHead` of the row's scores and the column of values of head `l / 64`, at component `l % 64`
   (`block_apply`), over extended reals. -/
module

public import proofs.«01_k».proof.Proof.Gen.ReferenceIdeal.Value
public import proofs.«01_k».proof.Proof.Math
public import Idealize.ShloMosaic.Lib.Pointwise

@[expose] public section

set_option maxRecDepth 16384

noncomputable section

namespace Cert.AttnRef

open Cert.ReferenceIdeal Cert.ReferenceIdeal.Gen Cert.ReferenceIdeal.Value Cert.Attn Idealize.ShloMosaic Idealize.ShloMosaic.TcCoe

theorem c448 : Ideal.ofBits .f32 0x43E00000#32 = ((448 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c256inv : Ideal.ofBits .f32 0x3B800000#32 = ((1 / 256 : ℝ) : EReal) := by
  simp [Ideal.ofBits, Ideal.ieee, -EReal.coe_mul]; norm_num
theorem c8inv : Ideal.ofBits .f32 0x3E000000#32 = ((1 / 8 : ℝ) : EReal) := by
  simp [Ideal.ofBits, Ideal.ieee, -EReal.coe_mul]; norm_num
theorem cbot : Ideal.ofBits .f32 0xFF800000#32 = (⊥ : EReal) := by
  simp [Ideal.ofBits, Ideal.ieee]

variable (P0 : Vec Ideal S36x4x5x256x64 .fp8e4m3) (P1 : Vec Ideal S36x4x256x64 .fp8e4m3) (P2 : Vec Ideal S36x4x5x1x1 .f32)
  (P3 : Vec Ideal S36x4x256x64 .fp8e4m3) (P4 : Vec Ideal S36x1x4x1x1 .f32)

/-- The scores of query row `r` of head `g` of group `kv` in batch `b`. -/
def score (b : Fin 36) (kv : Fin 4) (g : Fin 5) (r : Fin 256) (j : Fin 256) : EReal :=
  (∑ e : Fin 64, P0 (ix5 b kv g r e) * P1 (ix4 b kv j e)) * P2 (ix5 b kv g 0 0)

/-- The exponential of a score less its row's greatest. -/
theorem pay2_apply (b : Fin 36) (kv : Fin 4) (g : Fin 5) (r : Fin 256) (j : Fin 256) :
    k0_pay2 (F := Ideal) P0 P1 P2 (ix5 b kv g r j) = Ideal.exp (score P0 P1 P2 b kv g r j - mx (score P0 P1 P2 b kv g r)) := by
  pointwise [k0_pay2]
  rw [cbot]
  rfl

/-- A row's sum of exponentials. -/
theorem sum_apply (b : Fin 36) (kv : Fin 4) (g : Fin 5) (r : Fin 256) :
    multiReduction (F := Ideal) .add [4] S36x4x5x256 (k0_pay2 P0 P1 P2) 0x00000000#32 reduces_S36x4x5x256x256_S36x4x5x256 (.inl rfl) rfl (ix4 b kv g r)
      = ∑ j : Fin 256, k0_pay2 (F := Ideal) P0 P1 P2 (ix5 b kv g r j) := by
  pointwise

/-- The product of the codes with the values. -/
theorem pay3_apply (b : Fin 36) (r : Fin 256) (kv : Fin 4) (g : Fin 5) (d : Fin 64) :
    k0_pay3 (F := Ideal) P0 P1 P2 P3 (ix5 b r kv g d)
      = ∑ j : Fin 256, P3 (ix4 b kv j d) * min ((448 : ℝ) : EReal) (max 0 (k0_pay2 (F := Ideal) P0 P1 P2 (ix5 b kv g r j) * ((256 : ℝ) : EReal))) := by
  pointwise [k0_pay3]
  rw [c448, c256]

/-- WHAT THE BLOCK HOLDS, from the operands that the body loads. -/
theorem block_apply (b : Fin 36) (r : Fin 256) (l : Fin 1280) (kv : Fin 4) (g : Fin 5) (d : Fin 64)
    (hkv : kv.val = l.val / 320) (hg : g.val = l.val / 64 % 5) (hd : d.val = l.val % 64) :
    E5 (F := Ideal) P0 P1 P2 P3 P4 (ix3 b r l)
      = refHead (score P0 P1 P2 b kv g r) (fun j => P3 (ix4 b kv j d)) (P4 (ix5 b 0 kv 0 0)) := by
  have h0 : ix5_0 (ix3 b r l) = ix5 b r kv g d := by
    funext a; apply Fin.ext
    match a with | ⟨0, _⟩ => rfl | ⟨1, _⟩ => rfl | ⟨2, _⟩ => exact hkv.symm | ⟨3, _⟩ => exact hg.symm | ⟨4, _⟩ => exact hd.symm
  have h1 : ix5_1 (ix3 b r l) = ix5 b 0 kv 0 0 := by
    funext a; apply Fin.ext
    match a with | ⟨0, _⟩ => rfl | ⟨1, _⟩ => rfl | ⟨2, _⟩ => exact hkv.symm | ⟨3, _⟩ => rfl | ⟨4, _⟩ => rfl
  have h2 : ix5_2 (ix3 b r l) = ix4 b kv g r := by
    funext a; apply Fin.ext
    match a with | ⟨0, _⟩ => rfl | ⟨1, _⟩ => exact hkv.symm | ⟨2, _⟩ => exact hg.symm | ⟨3, _⟩ => rfl
  show k0_pay3 (F := Ideal) P0 P1 P2 P3 (ix5_0 (ix3 b r l)) * Ideal.div (P4 (ix5_1 (ix3 b r l)) * Ideal.ofBits .f32 0x3B800000#32)
    (multiReduction (F := Ideal) .add [4] S36x4x5x256 (k0_pay2 P0 P1 P2) 0x00000000#32 reduces_S36x4x5x256x256_S36x4x5x256 (.inl rfl) rfl (ix5_2 (ix3 b r l))) = _
  rw [h0, h1, h2, sum_apply, pay3_apply, c256inv]
  simp only [pay2_apply]
  rfl

end Cert.AttnRef

end
-- ==== Proof.RefRun.lean ====
/- Hand-written, untrusted: WHAT THE REFERENCE'S RUN LEAVES, in terms of the arguments. Its call stages whole arrays: the
   query codes with the heads split into groups, the products of the scales and the value scales, made before the call,
   and the key and value codes. So the result at batch `b`, query row `r` and lane `l` is `refHead` of that row's
   scores and of that head's column of values (`result_apply`). -/
module

public import proofs.«01_k».proof.Proof.Reference
public import Idealize.ShloMosaic.Lib.Pipeline.ValueKit.Point

@[expose] public section

set_option maxRecDepth 16384

noncomputable section

namespace Cert.AttnRef

open Cert.ReferenceIdeal Cert.ReferenceIdeal.Gen Cert.ReferenceIdeal.Value Cert.Attn Idealize.ShloMosaic Idealize.ShloMosaic.TcCoe

/-- Component `d` of query row `r` of head `h` in batch `b`, as the reference computes it from the arguments. -/
def refAt (q : Vec Ideal S36x20x256x64 .fp8e4m3) (qs : Vec Ideal S36x20 .f32) (k : Vec Ideal S36x4x256x64 .fp8e4m3) (ks : Vec Ideal S36x4 .f32)
    (v : Vec Ideal S36x4x256x64 .fp8e4m3) (vs : Vec Ideal S36x4 .f32) (b : Fin 36) (h : Fin 20) (kv : Fin 4) (r : Fin 256) (d : Fin 64) : EReal :=
  refHead (fun j => (∑ e : Fin 64, q (ix4 b h r e) * k (ix4 b kv j e)) * (qs (ix2 b h) * ks (ix2 b kv) * ((1 / 8 : ℝ) : EReal)))
    (fun j => v (ix4 b kv j d)) (vs (ix2 b kv))

variable (m : (ℓ : Loc nD τ sig) → Buf (Elt Ideal) ℓ)

/-- The call's one point. -/
abbrev t0 : Fin cfg0.N := ⟨0, by decide⟩

/-- The windows are whole arrays. -/
theorem idx_facts : ∀ t : Fin cfg0.N,
    (∀ a : Fin 5, win0_0.index t a = 0) ∧ (∀ a : Fin 5, win0_1.index t a = 0) ∧ (∀ a : Fin 4, win0_2.index t a = 0)
    ∧ (∀ a : Fin 4, win0_3.index t a = 0) ∧ (∀ a : Fin 5, win0_4.index t a = 0) ∧ (∀ a : Fin 3, win0_5.index t a = 0) :=
  (by decide +kernel : ∀ t : Fin grid0.N, _)

/-- The query codes in the call: head `h` is number `h % 5` of group `h / 5`. -/
theorem v0_apply (c : Dev nD) (b : Fin 36) (kv : Fin 4) (g : Fin 5) (r : Fin 256) (e : Fin 64) (h : Fin 20) (hh : h.val = 5 * kv.val + g.val) :
    V m c main_v0 (ix5 b kv g r e) = m ((c : Thread nD τ).loc main_arg0) (ix4 b h r e) := by
  entry_read
  exact shapeCast_apply _ _ (ix5 b kv g r e) (ix4 b h r e) (by
    rw [Shape.rowMajor_val_four, Shape.rowMajor_val_five]
    show ((b.val * 20 + h.val) * 256 + r.val) * 64 + e.val = (((b.val * 4 + kv.val) * 5 + g.val) * 256 + r.val) * 64 + e.val
    omega)

/-- The scale of a head's scores in the call. -/
theorem v7_apply (c : Dev nD) (b : Fin 36) (kv : Fin 4) (g : Fin 5) (h : Fin 20) (hh : h.val = 5 * kv.val + g.val)
    (qs : Vec Ideal S36x20 .f32) (ks : Vec Ideal S36x4 .f32) (hqs : m ((c : Thread nD τ).loc main_arg1) = qs) (hks : m ((c : Thread nD τ).loc main_arg3) = ks) :
    V m c main_v7 (ix5 b kv g 0 0) = qs (ix2 b h) * ks (ix2 b kv) * ((1 / 8 : ℝ) : EReal) := by
  have e1 : shapeCast S36x4x5 qs shapeCasts_S36x20_S36x4x5 (ix3 b kv g) = qs (ix2 b h) :=
    shapeCast_apply _ _ (ix3 b kv g) (ix2 b h) (by
      rw [Shape.rowMajor_val_two, Shape.rowMajor_val_three]
      show b.val * 20 + h.val = (b.val * 4 + kv.val) * 5 + g.val
      omega)
  rw [← e1, ← c8inv]
  subst hqs hks
  entry_read
  pointwise

/-- The value scales in the call. -/
theorem v8_apply (c : Dev nD) (b : Fin 36) (kv : Fin 4) :
    V m c main_v8 (ix5 b 0 kv 0 0) = m ((c : Thread nD τ).loc main_arg5) (ix2 b kv) := by
  entry_read
  pointwise

/-- Where the result's block lies: it is the whole array. -/
theorem emb5 (y : S36x256x1280.Idx) : ((cfg0.win 5).blk t0).view.emb y = y := by
  have f := (idx_facts t0).2.2.2.2.2
  have f0 := f 0; have f1 := f 1; have f2 := f 2
  funext a; apply Fin.ext
  match a with
  | ⟨0, _⟩ => show win0_5.index t0 (0 : Fin 3) * 36 + 1 * (y 0).val = (y 0).val; omega
  | ⟨1, _⟩ => show win0_5.index t0 (1 : Fin 3) * 256 + 1 * (y 1).val = (y 1).val; omega
  | ⟨2, _⟩ => show win0_5.index t0 (2 : Fin 3) * 1280 + 1 * (y 2).val = (y 2).val; omega

/-- A load of a whole staged array is the array as the call finds it: the query codes. -/
theorem ld0 (c : Dev nD) : View.ld (iblk m c 0 t0) r0_0 = V m c main_v0 := by
  have f := (idx_facts t0).1
  have f0 := f 0; have f1 := f 1; have f2 := f 2; have f3 := f 3; have f4 := f 4
  funext y
  show V m c main_v0 (((cfg0.win 0).blk t0).view.emb (r0_0.idx y)) = _
  refine congrArg (V m c main_v0) (funext fun a => Fin.ext ?_)
  match a with
  | ⟨0, _⟩ => show win0_0.index t0 (0 : Fin 5) * 36 + 1 * (0 + 1 * (y 0).val) = (y 0).val; omega
  | ⟨1, _⟩ => show win0_0.index t0 (1 : Fin 5) * 4 + 1 * (0 + 1 * (y 1).val) = (y 1).val; omega
  | ⟨2, _⟩ => show win0_0.index t0 (2 : Fin 5) * 5 + 1 * (0 + 1 * (y 2).val) = (y 2).val; omega
  | ⟨3, _⟩ => show win0_0.index t0 (3 : Fin 5) * 256 + 1 * (0 + 1 * (y 3).val) = (y 3).val; omega
  | ⟨4, _⟩ => show win0_0.index t0 (4 : Fin 5) * 64 + 1 * (0 + 1 * (y 4).val) = (y 4).val; omega

/-- The score scales. -/
theorem ld1 (c : Dev nD) : View.ld (iblk m c 1 t0) r0_2 = V m c main_v7 := by
  have f := (idx_facts t0).2.1
  have f0 := f 0; have f1 := f 1; have f2 := f 2; have f3 := f 3; have f4 := f 4
  funext y
  show V m c main_v7 (((cfg0.win 1).blk t0).view.emb (r0_2.idx y)) = _
  refine congrArg (V m c main_v7) (funext fun a => Fin.ext ?_)
  match a with
  | ⟨0, _⟩ => show win0_1.index t0 (0 : Fin 5) * 36 + 1 * (0 + 1 * (y 0).val) = (y 0).val; omega
  | ⟨1, _⟩ => show win0_1.index t0 (1 : Fin 5) * 4 + 1 * (0 + 1 * (y 1).val) = (y 1).val; omega
  | ⟨2, _⟩ => show win0_1.index t0 (2 : Fin 5) * 5 + 1 * (0 + 1 * (y 2).val) = (y 2).val; omega
  | ⟨3, _⟩ => show win0_1.index t0 (3 : Fin 5) * 1 + 1 * (0 + 1 * (y 3).val) = (y 3).val; omega
  | ⟨4, _⟩ => show win0_1.index t0 (4 : Fin 5) * 1 + 1 * (0 + 1 * (y 4).val) = (y 4).val; omega

/-- The key codes. -/
theorem ld2 (c : Dev nD) : View.ld (iblk m c 2 t0) r0_1 = m ((c : Thread nD τ).loc main_arg2) := by
  have f := (idx_facts t0).2.2.1
  have f0 := f 0; have f1 := f 1; have f2 := f 2; have f3 := f 3
  refine Eq.trans ?_ (V_main_arg2 m c)
  funext y
  show V m c main_arg2 (((cfg0.win 2).blk t0).view.emb (r0_1.idx y)) = _
  refine congrArg (V m c main_arg2) (funext fun a => Fin.ext ?_)
  match a with
  | ⟨0, _⟩ => show win0_2.index t0 (0 : Fin 4) * 36 + 1 * (0 + 1 * (y 0).val) = (y 0).val; omega
  | ⟨1, _⟩ => show win0_2.index t0 (1 : Fin 4) * 4 + 1 * (0 + 1 * (y 1).val) = (y 1).val; omega
  | ⟨2, _⟩ => show win0_2.index t0 (2 : Fin 4) * 256 + 1 * (0 + 1 * (y 2).val) = (y 2).val; omega
  | ⟨3, _⟩ => show win0_2.index t0 (3 : Fin 4) * 64 + 1 * (0 + 1 * (y 3).val) = (y 3).val; omega

/-- The value codes. -/
theorem ld3 (c : Dev nD) : View.ld (iblk m c 3 t0) r0_1 = m ((c : Thread nD τ).loc main_arg4) := by
  have f := (idx_facts t0).2.2.2.1
  have f0 := f 0; have f1 := f 1; have f2 := f 2; have f3 := f 3
  refine Eq.trans ?_ (V_main_arg4 m c)
  funext y
  show V m c main_arg4 (((cfg0.win 3).blk t0).view.emb (r0_1.idx y)) = _
  refine congrArg (V m c main_arg4) (funext fun a => Fin.ext ?_)
  match a with
  | ⟨0, _⟩ => show win0_3.index t0 (0 : Fin 4) * 36 + 1 * (0 + 1 * (y 0).val) = (y 0).val; omega
  | ⟨1, _⟩ => show win0_3.index t0 (1 : Fin 4) * 4 + 1 * (0 + 1 * (y 1).val) = (y 1).val; omega
  | ⟨2, _⟩ => show win0_3.index t0 (2 : Fin 4) * 256 + 1 * (0 + 1 * (y 2).val) = (y 2).val; omega
  | ⟨3, _⟩ => show win0_3.index t0 (3 : Fin 4) * 64 + 1 * (0 + 1 * (y 3).val) = (y 3).val; omega

/-- The value scales. -/
theorem ld4 (c : Dev nD) : View.ld (iblk m c 4 t0) r0_3 = V m c main_v8 := by
  have f := (idx_facts t0).2.2.2.2.1
  have f0 := f 0; have f1 := f 1; have f2 := f 2; have f3 := f 3; have f4 := f 4
  funext y
  show V m c main_v8 (((cfg0.win 4).blk t0).view.emb (r0_3.idx y)) = _
  refine congrArg (V m c main_v8) (funext fun a => Fin.ext ?_)
  match a with
  | ⟨0, _⟩ => show win0_4.index t0 (0 : Fin 5) * 36 + 1 * (0 + 1 * (y 0).val) = (y 0).val; omega
  | ⟨1, _⟩ => show win0_4.index t0 (1 : Fin 5) * 1 + 1 * (0 + 1 * (y 1).val) = (y 1).val; omega
  | ⟨2, _⟩ => show win0_4.index t0 (2 : Fin 5) * 4 + 1 * (0 + 1 * (y 2).val) = (y 2).val; omega
  | ⟨3, _⟩ => show win0_4.index t0 (3 : Fin 5) * 1 + 1 * (0 + 1 * (y 3).val) = (y 3).val; omega
  | ⟨4, _⟩ => show win0_4.index t0 (4 : Fin 5) * 1 + 1 * (0 + 1 * (y 4).val) = (y 4).val; omega

/-- THE RESULT AT AN ELEMENT: batch `b`, query row `r`, lane `l`. -/
theorem result_apply (c : Dev nD) (b : Fin 36) (r : Fin 256) (l : Fin 1280) (h : Fin 20) (kv : Fin 4) (d : Fin 64)
    (hh : h.val = l.val / 64) (hkv : kv.val = l.val / 320) (hd : d.val = l.val % 64) :
    (dats m 0 c).arrAt 5 cfg0.N (ix3 b r l)
      = refAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b h kv r d := by
  have q := congrFun (blocks5 m c t0 (by decide +kernel)) (ix3 b r l)
  rw [flushed5] at q
  have q' : (dats m 0 c).arrAt 5 cfg0.N (((cfg0.win 5).blk t0).view.emb (ix3 b r l))
      = out0_5 (iblk m c 0 t0) (iblk m c 1 t0) (iblk m c 2 t0) (iblk m c 3 t0) (iblk m c 4 t0) (ix3 b r l) := q
  rw [emb5] at q'
  refine q'.trans ?_
  unfold out0_5
  rw [canon5_eq, ld0, ld1, ld2, ld3, ld4]
  have hg : l.val / 64 % 5 < 5 := Nat.mod_lt _ (by norm_num)
  rw [block_apply _ _ _ _ _ b r l kv ⟨l.val / 64 % 5, hg⟩ d hkv rfl hd]
  have hr : h.val = 5 * kv.val + l.val / 64 % 5 := by omega
  rw [v8_apply]
  unfold refAt
  congr 1
  funext j
  unfold score
  rw [v7_apply m c b kv ⟨l.val / 64 % 5, hg⟩ h hr _ _ rfl rfl]
  simp only [v0_apply m c b kv ⟨l.val / 64 % 5, hg⟩ r _ h hr]

end Cert.AttnRef

end
-- ==== Proof.Equation.lean ====
/- Hand-written, untrusted: THE KERNEL'S RESULT IS THE REFERENCE'S. At an element both are one head's row: the kernel's
   scores are the reference's multiplied by `1 / log 2` (`kerAt_eq`, by Math.lean's `kerHead_eq`); so on equal arguments
   the two result arrays are equal (`results_eq`). -/
module

public import proofs.«01_k».proof.Proof.KernelRun
public import proofs.«01_k».proof.Proof.RefRun

@[expose] public section

noncomputable section

namespace Cert.Proof

open Cert.Attn Cert.AttnRef Idealize.ShloMosaic Idealize.ShloMosaic.TcCoe

/-- A score of the kernel is the reference's score multiplied by `1 / log 2`. -/
theorem score_eq (x y a : EReal) (hxy : x = y) :
    x * (a * (((1 / 8) * (Real.log 2)⁻¹ : ℝ) : EReal)) = y * (a * ((1 / 8 : ℝ) : EReal)) * (kap : EReal) := by
  subst hxy
  rw [EReal.coe_mul, mul_assoc, mul_assoc]
  rfl

/-- One element: the kernel's is the reference's. -/
theorem kerAt_eq (q : Vec Ideal Cert.KernelIdeal.S36x20x256x64 .fp8e4m3) (qs : Vec Ideal Cert.KernelIdeal.S36x20 .f32)
    (k : Vec Ideal Cert.KernelIdeal.S36x4x256x64 .fp8e4m3) (ks : Vec Ideal Cert.KernelIdeal.S36x4 .f32)
    (v : Vec Ideal Cert.KernelIdeal.S36x4x256x64 .fp8e4m3) (vs : Vec Ideal Cert.KernelIdeal.S36x4 .f32)
    (b : Fin 36) (h : Fin 20) (kv : Fin 4) (r : Fin 256) (d : Fin 64) :
    kerAt q qs k ks v vs b h kv r d = refAt q qs k ks v vs b h kv r d := by
  unfold kerAt refAt
  rw [← kerHead_eq]
  congr 1
  funext j
  exact score_eq _ _ _ (Finset.sum_congr rfl fun e _ => mul_comm _ _)

/-- THE TWO RESULTS ARE EQUAL when the arguments are. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.dats m' 0 c).arrAt 5 Cert.ReferenceIdeal.cfg0.N = (Cert.KernelIdeal.Gen.dats m 0 c).arrAt 6 Cert.KernelIdeal.cfg0.N := by
  funext y
  obtain ⟨b, r, l, rfl⟩ : ∃ (b : Fin 36) (r : Fin 256) (l : Fin 1280), y = ix3 b r l := ⟨_, _, _, (ix3_eta y).symm⟩
  have hl : l.val < 1280 := l.isLt
  refine (Cert.AttnRef.result_apply m' c b r l ⟨l.val / 64, by omega⟩ ⟨l.val / 320, by omega⟩ ⟨l.val % 64, by omega⟩ rfl rfl rfl).trans ?_
  refine Eq.trans ?_ (Cert.Attn.result_apply m c b r l ⟨l.val / 64, by omega⟩ ⟨l.val / 320, by omega⟩ ⟨l.val % 64, by omega⟩ rfl rfl rfl).symm
  rw [a0, a1, a2, a3, a4, a5]
  exact (kerAt_eq _ _ _ _ _ _ _ _ _ _ _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Gen.KernelIdeal.Value
public import proofs.«01_k».proof.Proof.Gen.ReferenceIdeal.Value
public import proofs.«01_k».proof.Proof.Equation

@[expose] public section

noncomputable section

namespace Cert.Proof

open Idealize.ShloMosaic Idealize.ShloMosaic.TcCoe Idealize.SL.Sem

/-- The two programs' results are equal whenever their arguments are. -/
theorem algebraic : @Cert.algebraic_KernelIdeal_ReferenceIdeal Cert.KernelIdeal.Gen.facts Cert.ReferenceIdeal.Gen.facts := by
  intro m g m' g' _ hag
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ?_) (Cert.ReferenceIdeal.Value.run_blocks m' g')
  obtain ⟨a0, a1, a2, a3, a4, a5⟩ := hag c
  exact ⟨(h c).1.trans (results_eq m m' c a0 a1 a2 a3 a4 a5), (h c).2⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  IdealRules.named_const.statement Cert.KernelIdeal.κ "scale_log2e" .f32 0x3E38AA3B#32 _ rfl,
  algebraic⟩

end Cert.Proof

end
